-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v1)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v1) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v2) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S4x8192x2048 : Shape := ⟨3, ![4, 8192, 2048]⟩
abbrev S8192x2048 : Shape := ⟨2, ![8192, 2048]⟩
abbrev S128x2048 : Shape := ⟨2, ![128, 2048]⟩
abbrev S_ : Shape := ⟨0, ![]⟩
abbrev S1x8192x2048 : Shape := ⟨3, ![1, 8192, 2048]⟩

abbrev nBuf : Table → Nat
  | .hbm => 4
  | .shared => 4
  | _ => 0

abbrev bufTy : (tb : Table) → Fin (nBuf tb) → BufTy
  | .hbm, ⟨0, _⟩ => ⟨S4x8192x2048, .f32⟩
  | .hbm, ⟨1, _⟩ => ⟨S8192x2048, .f32⟩
  | .hbm, ⟨2, _⟩ => ⟨S8192x2048, .f32⟩
  | .hbm, ⟨3, _⟩ => ⟨S1x8192x2048, .f32⟩
  | .shared, ⟨0, _⟩ => ⟨S128x2048, .f32⟩
  | .shared, ⟨1, _⟩ => ⟨S128x2048, .f32⟩
  | .shared, ⟨2, _⟩ => ⟨S128x2048, .f32⟩
  | .shared, ⟨3, _⟩ => ⟨S128x2048, .f32⟩
  | _, _ => ⟨S4x8192x2048, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_arg1_scs : Ref sig .scScalar := ⟨.hbm, 1, rfl⟩
abbrev main_v0_scs : Ref sig .scScalar := ⟨.hbm, 2, rfl⟩
abbrev cc0_scratch0 : Ref sig .scScalar := ⟨.shared, 0, rfl⟩
abbrev cc0_scratch1 : Ref sig .scScalar := ⟨.shared, 1, rfl⟩
abbrev cc0_scratch2 : Ref sig .scScalar := ⟨.shared, 2, rfl⟩
abbrev cc0_scratch3 : Ref sig .scScalar := ⟨.shared, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![2], ![false]⟩

def k0_off1 (i : grid0.Coords) (c0_i32 : BitVec 32) : Fin 2 → Nat :=
  let arg0 : BitVec 32 := BitVec.ofNat 32 (i 0).val
  let c4096_i32 : BitVec 32 := 4096#32
  let v0 : BitVec 32 := Scalar.muli arg0 c4096_i32
  let v1 : BitVec 32 := Scalar.addi v0 c0_i32
  let c0_i32_0 : BitVec 32 := 0#32
  ![v1.toNat, 0]
abbrev scKind : Fin 1 → Kind := fun | 0 => .scScalar | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== Reference.lean ====
abbrev S4x8192x2048 : Shape := ⟨3, ![4, 8192, 2048]⟩
abbrev S8192x2048 : Shape := ⟨2, ![8192, 2048]⟩
abbrev S8192 : Shape := ⟨1, ![8192]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S1x8192x2048 : Shape := ⟨3, ![1, 8192, 2048]⟩

abbrev nBuf : Space → Nat
  | .hbm => 27
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S8192x2048, .f32⟩
  | .hbm, ⟨2, _⟩ => ⟨S8192, .i32⟩
  | .hbm, ⟨3, _⟩ => ⟨S_, .i32⟩
  | .hbm, ⟨4, _⟩ => ⟨S8192, .i32⟩
  | .hbm, ⟨5, _⟩ => ⟨S8192, .i1⟩
  | .hbm, ⟨6, _⟩ => ⟨S_, .i32⟩
  | .hbm, ⟨7, _⟩ => ⟨S8192, .i32⟩
  | .hbm, ⟨8, _⟩ => ⟨S8192, .i32⟩
  | .hbm, ⟨9, _⟩ => ⟨S8192, .i32⟩
  | .hbm, ⟨10, _⟩ => ⟨S8192x1, .i32⟩
  | .hbm, ⟨11, _⟩ => ⟨S1, .i32⟩
  | .hbm, ⟨12, _⟩ => ⟨S_, .i32⟩
  | .hbm, ⟨13, _⟩ => ⟨S8192x1, .i32⟩
  | .hbm, ⟨14, _⟩ => ⟨S8192x1, .i1⟩
  | .hbm, ⟨15, _⟩ => ⟨S1x1, .i32⟩
  | .hbm, ⟨16, _⟩ => ⟨S8192x1, .i32⟩
  | .hbm, ⟨17, _⟩ => ⟨S8192x1, .i1⟩
  | .hbm, ⟨18, _⟩ => ⟨S8192x1, .i1⟩
  | .hbm, ⟨19, _⟩ => ⟨S_, .i1⟩
  | .hbm, ⟨20, _⟩ => ⟨S8192, .i1⟩
  | .hbm, ⟨21, _⟩ => ⟨S8192x2048, .f32⟩
  | .hbm, ⟨22, _⟩ => ⟨S8192x2048, .i1⟩
  | .hbm, ⟨23, _⟩ => ⟨S_, .f32⟩
  | .hbm, ⟨24, _⟩ => ⟨S8192x2048, .f32⟩
  | .hbm, ⟨25, _⟩ => ⟨S8192x2048, .f32⟩
  | .hbm, ⟨26, _⟩ => ⟨S1x8192x2048, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_v2 : Ref sig .tc := ⟨.hbm, 26, rfl⟩

abbrev nD : Nat := 1
abbrev τ : Topo := Topo.v7x

variable {F : FTy → Type} [FloatOps F]
-- ==== Proof.Schedule.lean ====
/-
  The kernel's body read as a schedule. The body moves 32 blocks of 128 rows of the table through four shared
  buffers: block `r` is gathered into buffer `r % 4` and scattered from there to the same rows of the result. The printed
  body is one straight line of 128 transfers and waits; here it is spelt as a schedule over a symbolic block number — two
  gathers ahead, 32 trips, four waits at the end — and the two are the same program (`body_eq`).
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.Ring
public import proofs.«01_k».proof.Proof.Gen.KernelIdeal

@[expose] public section

noncomputable section

namespace Cert.Proof.Table

open Cert.KernelIdeal Cert.KernelIdeal.Gen
open Idealize.ShloMosaic Idealize.SL.Sem

variable {F : FTy → Type} [FloatOps F]

/-! ## The arrays, the buffers and the semaphores, by number -/

/-- The table, and the result, as the kernel names them: whole arrays in HBM. -/
abbrev tabW : Memref sig .scScalar .hbm S8192x2048 .f32 := Memref.whole main_arg1_scs
abbrev outW : Memref sig .scScalar .hbm S8192x2048 .f32 := Memref.whole main_v0_scs

/-- Block `r` of the 4096 rows that SparseCore `i 0` copies: 128 rows of the table, and the same rows of the result. -/
abbrev tabM (i : grid0.Coords) (r : Fin 32) : Memref sig .scScalar .hbm S128x2048 .f32 :=
  tabW.slice (Rect.unit (s := S8192x2048) (k0_off1 i (BitVec.ofNat 32 (128 * r.val))) S128x2048.size (k0_off1_inb i r)) (fun _ => rfl)
abbrev outM (i : grid0.Coords) (r : Fin 32) : Memref sig .scScalar .hbm S128x2048 .f32 :=
  outW.slice (Rect.unit (s := S8192x2048) (k0_off1 i (BitVec.ofNat 32 (128 * r.val))) S128x2048.size (k0_off1_inb i r)) (fun _ => rfl)

/-- Shared buffer `j`, as a reference and as a whole memref. -/
abbrev bufR (j : Fin 4) : Ref sig .scScalar := ⟨.shared, j, rfl⟩
def bufM : Fin 4 → Memref sig .scScalar .shared S128x2048 .f32
  | 0 => Memref.whole cc0_scratch0
  | 1 => Memref.whole cc0_scratch1
  | 2 => Memref.whole cc0_scratch2
  | 3 => Memref.whole cc0_scratch3

theorem bufM_whole : ∀ j, (bufM j).IsWhole
  | 0 => Memref.isWhole_whole _
  | 1 => Memref.isWhole_whole _
  | 2 => Memref.isWhole_whole _
  | 3 => Memref.isWhole_whole _

/-- Buffer `j`'s two DMA semaphores: the one its gathers count on, and the one its scatters count on. -/
def gsem (j : Fin 4) : DmaSem sig := ⟨j.val, Nat.lt_of_lt_of_le j.isLt (by decide)⟩
def ssem (j : Fin 4) : DmaSem sig := ⟨4 + j.val, Nat.add_lt_add_left j.isLt 4⟩

/-- The buffer block `r` goes through: `r mod 4`. -/
def slot (n : ℕ) : Fin 4 := ⟨n % 4, Nat.mod_lt _ (by decide)⟩

/-! ## The four operations and the schedule -/

/-- The programs the kernel's body is one of: those of SparseCore `i 0`'s scalar subcore. -/
abbrev Pg (i : grid0.Coords) : Type 1 := Prog (TpuEff nD τ sig (Elt F) Λ₀ (.scScalar ((i 0).castLE hcore0))) PUnit

/-- Start copying block `r` of the table into its buffer. -/
def gather (i : grid0.Coords) (r : Fin 32) : Pg (F := F) i :=
  Prog.lift (.enqueueDma (tabM i r) (.here (bufM (slot r))) (.dma (gsem (slot r))) (View.wordExact_bits rfl) (bufM_whole _).wordExact ⟨Or.inl rfl, trivial⟩)
/-- Wait for that copy. -/
def gatherWait (i : grid0.Coords) (r : Fin 32) : Pg (F := F) i :=
  Prog.lift (.waitDma2 (gsem (slot r)) (tabM i r) (bufM (slot r)) (View.wordExact_bits rfl) (bufM_whole _).wordExact)
/-- Start copying block `r` from its buffer to the result. -/
def scatter (i : grid0.Coords) (r : Fin 32) : Pg (F := F) i :=
  Prog.lift (.enqueueDma (bufM (slot r)) (.here (outM i r)) (.dma (ssem (slot r))) (bufM_whole _).wordExact (View.wordExact_bits rfl) ⟨Or.inl rfl, trivial⟩)
/-- Wait for that copy. -/
def scatterWait (i : grid0.Coords) (r : Fin 32) : Pg (F := F) i :=
  Prog.lift (.waitDma2 (ssem (slot r)) (bufM (slot r)) (outM i r) (bufM_whole _).wordExact (View.wordExact_bits rfl))

/-- The first half of trip `g`: if block `g + 2` exists, it is gathered, its buffer's previous scatter (block
    `g - 2`'s) waited for first. -/
def refill (i : grid0.Coords) (g : ℕ) : Pg (F := F) i :=
  if h : g + 2 < 32 then
    (if h' : 2 ≤ g then scatterWait i ⟨g - 2, by omega⟩ else pure ⟨⟩) >>= fun _ => gather i ⟨g + 2, h⟩
  else pure ⟨⟩

/-- The second half of trip `g`: block `g`'s gather is waited for and its scatter started. -/
def pass (i : grid0.Coords) (g : Fin 32) : Pg (F := F) i := gatherWait i g >>= fun _ => scatter i g

/-- `n` trips from trip `g` on, `g + n = 32`. -/
def trips (i : grid0.Coords) : (n g : ℕ) → g + n = 32 → Pg (F := F) i
  | 0, _, _ => pure ⟨⟩
  | n + 1, g, h => refill i g >>= fun _ => pass i ⟨g, by omega⟩ >>= fun _ => trips i n (g + 1) (by omega)

/-- The waits for the last four scatters. -/
def drain (i : grid0.Coords) : Pg (F := F) i :=
  scatterWait i 28 >>= fun _ => scatterWait i 29 >>= fun _ => scatterWait i 30 >>= fun _ => scatterWait i 31

/-- The whole body. -/
def ring (i : grid0.Coords) : Pg (F := F) i :=
  gather i 0 >>= fun _ => gather i 1 >>= fun _ => trips i 32 0 rfl >>= fun _ => drain i

/-- The kernel's body, on the arguments the launch passes. -/
abbrev body (i : grid0.Coords) : Pg (F := F) i :=
  cc0__scs_body i tabW (Memref.isWhole_whole _) outW (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    cc0_scratch4 cc0_scratch5 cc0_scratch6 cc0_scratch7 cc0_scratch8 cc0_scratch9 cc0_scratch10 cc0_scratch11

/-- The printed body is the schedule. -/
theorem body_eq (i : grid0.Coords) : body (F := F) i = ring i := rfl

end Cert.Proof.Table

end
-- ==== Proof.Steps.lean ====
/-
  One block through its buffer: what is held before a block is taken up (`Todo`), while it is being gathered
  (`Gath`), while it is being scattered (`Scat`) and once it has arrived (`Done`), and what each of the schedule's operations
  does to that, for any block of either SparseCore.
-/
module

public import proofs.«01_k».proof.Proof.Schedule

@[expose] public section

noncomputable section

namespace Cert.Proof.Table

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type}

/-! ## The resource algebra: the launch handshakes' rounds beside the transfers' counters -/

abbrev UH : Type := URounds (GSem nD τ sig) ℕ
abbrev UU : Type := UH × Counters

local notation "𝕄" => MT nD τ sig (HIx 1) (Elt F) ℕ UU ℕ

/-- Where the transfers' counters sit in the algebra. -/
abbrev EC : UEmb Counters (MT nD τ sig (HIx 1) (Elt F) ℕ UU ℕ) := countersEmb

/-! ## What is held of one block -/

variable (m : (ℓ : Loc nD τ sig) → Buf (Elt F) ℓ)

/-- The table and the call's result, as the TensorCore names them. -/
abbrev tabLoc (d : Dev nD) : Loc nD τ sig := (SparseCore.T d).loc main_arg1
abbrev outLoc (d : Dev nD) : Loc nD τ sig := (SparseCore.T d).loc main_v0

/-- The table's contents, as contents of the result: the kernel's result. -/
abbrev copied (d : Dev nD) : Buf (Elt F) (outLoc d) := m (tabLoc d)

section Block

variable (d : Dev nD) (i : grid0.Coords)

/-- The scalar subcore that runs the kernel at grid point `i`. -/
abbrev thr : Thread nD τ := S d ((i 0).castLE hcore0)

/-- Block `r` of the table, at its launch contents. -/
def tabPts (r : Fin 32) : sProp 𝕄 := (tabM i r).view.loc (thr d i) ↦[(tabM i r).view.set]{fullShare} m (tabLoc d)
/-- Block `r` of the result, at `f`. -/
def outPts (r : Fin 32) (f : Buf (Elt F) (outLoc d)) : sProp 𝕄 := (outM i r).view.loc (thr d i) ↦[(outM i r).view.set]{fullShare} f
/-- Buffer `j`, whatever it holds. -/
def bufPts (j : Fin 4) : sProp 𝕄 := iprop(∃ f, (bufM j).view.loc (thr d i) ↦[(bufM j).view.set]{fullShare} f)
/-- Buffer `j` holding block `r` of the table. -/
def bufHas (j : Fin 4) (r : Fin 32) : sProp 𝕄 :=
  iprop(∃ f, ⌜(bufM j).view.read (Elt F) f = (tabM i r).view.read (Elt F) (m (tabLoc d))⌝
    ∗ (bufM j).view.loc (thr d i) ↦[(bufM j).view.set]{fullShare} f)

/-- Buffer `j`'s gather and scatter counters at zero. -/
abbrev gZero (j : Fin 4) : sProp 𝕄 := semVal (thr d i, SemLoc.dma (gsem j)) 0
abbrev sZero (j : Fin 4) : sProp 𝕄 := semVal (thr d i, SemLoc.dma (ssem j)) 0

/-- Buffer `j` with no transfer under way. -/
def Free (j : Fin 4) : sProp 𝕄 := iprop(bufPts (F := F) d i j ∗ gZero (F := F) d i j ∗ sZero (F := F) d i j)
/-- Block `r` not taken up yet: its rows of the table, and of the result at their launch contents. -/
def Todo (r : Fin 32) : sProp 𝕄 := iprop(tabPts m d i r ∗ outPts d i r (m (outLoc d)))
/-- Block `r` arrived: its rows of the result hold the table's. -/
def Done (r : Fin 32) : sProp 𝕄 := iprop(tabPts m d i r ∗ outPts d i r (copied m d))
/-- Block `r` on its way into its buffer. -/
def Gath (r : Fin 32) : sProp 𝕄 :=
  iprop(Flight EC (thr d i) (.dma (gsem (slot r))) none (bufM (slot r)).view.dmaCredit iprop(bufHas m d i (slot r) r ∗ tabPts m d i r)
    ∗ sZero (F := F) d i (slot r) ∗ outPts d i r (m (outLoc d)))
/-- Block `r` on its way from its buffer to the result. -/
def Scat (r : Fin 32) : sProp 𝕄 :=
  iprop(Flight EC (thr d i) (.dma (ssem (slot r))) none (outM i r).view.dmaCredit iprop(outPts d i r (copied m d) ∗ bufPts (F := F) d i (slot r))
    ∗ gZero (F := F) d i (slot r) ∗ tabPts m d i r)

/-- What a wait reads and updates: the evidence that the subcore may wait while it owes `O`, and what it owes. -/
def Owe (O : CellTallies nD τ sig (HIx 1)) : sProp 𝕄 :=
  iprop(MayWaits (thr d i) none O ∗ ∃ W, owes (thr d i) O W)

/-! ## What the transfers leave -/

/-- A gather leaves its buffer holding the block. -/
theorem gather_lands (r : Fin 32) (f : Buf (Elt F) ((bufM (slot r)).view.loc (thr d i))) :
    iprop(((bufM (slot r)).view.loc (thr d i) ↦[(bufM (slot r)).view.set]{fullShare}
          ((bufM (slot r)).view.write (Elt F) f ((tabM i r).view.read (Elt F) (m (tabLoc d))) Finset.univ))
        ∗ (tabM i r).view.loc (thr d i) ↦[(tabM i r).view.set]{fullShare} m (tabLoc d))
      ⊢ (iprop(bufHas m d i (slot r) r ∗ tabPts m d i r) : sProp 𝕄) := by
  unfold bufHas tabPts
  iintro ⟨Hb, Ht⟩
  isplitl [Hb]
  · iexists (bufM (slot r)).view.write (Elt F) f ((tabM i r).view.read (Elt F) (m (tabLoc d))) Finset.univ
    isplitr
    · ipureintro; exact View.read_write_univ (v := (bufM (slot r)).view) f ((tabM i r).view.read (Elt F) (m (tabLoc d)))
    · iexact Hb
  · iexact Ht

/-- A scatter out of a buffer holding the block leaves the result's rows at the table's. -/
theorem scatter_lands (r : Fin 32) (f : Buf (Elt F) ((bufM (slot r)).view.loc (thr d i)))
    (hf : (bufM (slot r)).view.read (Elt F) f = (tabM i r).view.read (Elt F) (m (tabLoc d))) :
    iprop(((outM i r).view.loc (thr d i) ↦[(outM i r).view.set]{fullShare}
          ((outM i r).view.write (Elt F) (m (outLoc d)) ((bufM (slot r)).view.read (Elt F) f) Finset.univ))
        ∗ (bufM (slot r)).view.loc (thr d i) ↦[(bufM (slot r)).view.set]{fullShare} f)
      ⊢ (iprop(outPts d i r (copied m d) ∗ bufPts (F := F) d i (slot r)) : sProp 𝕄) := by
  unfold outPts bufPts
  have e : (outM i r).view.write (Elt F) (m (outLoc d)) ((bufM (slot r)).view.read (Elt F) f) Finset.univ
      = (outM i r).view.set.piecewise (copied m d) (m (outLoc d)) := by
    rw [hf]
    exact View.write_read_eq_piecewise (v := (outM i r).view) (m (outLoc d)) (copied m d) Finset.univ
  rw [e, pointsTo_congr (fun x hx => Finset.piecewise_eq_of_mem (outM i r).view.set (copied m d) (m (outLoc d)) hx)]
  iintro ⟨Ho, Hb⟩
  isplitl [Ho]; · iexact Ho
  iexists _; iexact Hb

variable [FloatOps F]

/-! ## The four operations -/

/-- Starting a block's gather takes a free buffer. -/
theorem wp_gather (r : Fin 32) :
    iprop(Free (F := F) d i (slot r) ∗ Todo m d i r)
      ⊢ wp frame (wpE (defs₀ (F := F)) Variants.none (thr d i) none) Set.univ (gather (F := F) i r) fun _ => Gath m d i r := by
  unfold Free Todo Gath bufPts gather Prog.lift
  iintro ⟨⟨⟨%f, Hb⟩, Hg, Hs⟩, Ht, Ho⟩
  iapply (wp_dmaLocal EC Variants.none (thr d i) none (src := tabM i r) (dst := bufM (slot r)) (q := fullShare) (fs := m (tabLoc d)) (fd := f)
    (Sd := (bufM (slot r)).view.set) none (bufM (slot r)).view.dmaCredit rfl (View.dmaCredit_pos _ (by decide)) (Finset.Subset.refl _)) $$ [Ht Hb Hg]
  · isplitl [Ht]; · unfold tabPts; iexact Ht
    isplitl [Hb]; · iexact Hb
    iexact Hg
  iintro Hf
  rw [wp_ret]; imodintro
  isplitl [Hf]
  · iapply (Flight_mono EC (thr d i) (gather_lands m d i r f)); iexact Hf
  isplitl [Hs]; · iexact Hs
  iexact Ho

/-- A trip's second half turns a block's gather into its scatter. -/
theorem wp_pass (O : CellTallies nD τ sig (HIx 1)) (r : Fin 32) :
    iprop(Gath m d i r ∗ Owe (F := F) d i O)
      ⊢ wp frame (wpE (defs₀ (F := F)) Variants.none (thr d i) none) Set.univ (pass (F := F) i r)
          fun _ => iprop(Scat m d i r ∗ Owe (F := F) d i O) := by
  unfold pass
  rw [wp_bind]
  unfold Gath Scat Owe gatherWait scatter Prog.lift
  iintro ⟨⟨Hf, Hs, Ho⟩, #Hmw, %W, HO⟩
  iapply (wp_waitLocalO EC Variants.none (thr d i) none none rfl) $$ [Hf HO]
  · isplitl [Hf]; · iexact Hf
    isplitl [HO]; · iexact HO
    iapply (MayWaits.elim (SemLoc.dma (gsem (slot r)))); iexact Hmw
  iintro ⟨⟨Hb, Ht⟩, Hg, HO⟩
  rw [wp_ret]; imodintro
  unfold bufHas
  icases Hb with ⟨%f, %hf, Hb⟩
  iapply (wp_dmaLocal EC Variants.none (thr d i) none (src := bufM (slot r)) (dst := outM i r) (q := fullShare) (fs := f) (fd := m (outLoc d))
    (Sd := (outM i r).view.set) none (outM i r).view.dmaCredit rfl (View.dmaCredit_pos _ (by decide)) (Finset.Subset.refl _)) $$ [Ho Hb Hs]
  · isplitl [Hb]; · iexact Hb
    isplitl [Ho]; · unfold outPts; iexact Ho
    iexact Hs
  iintro Hf
  rw [wp_ret]; imodintro
  isplitl [Hf Hg Ht]
  · isplitl [Hf]
    · iapply (Flight_mono EC (thr d i) (scatter_lands m d i r f hf)); iexact Hf
    isplitl [Hg]; · iexact Hg
    iexact Ht
  isplitr; · iexact Hmw
  iexists _; iexact HO

/-- Waiting for a block's scatter frees its buffer, the block arrived. -/
theorem wp_scatterWait (O : CellTallies nD τ sig (HIx 1)) (r : Fin 32) :
    iprop(Scat m d i r ∗ Owe (F := F) d i O)
      ⊢ wp frame (wpE (defs₀ (F := F)) Variants.none (thr d i) none) Set.univ (scatterWait (F := F) i r)
          fun _ => iprop(Free (F := F) d i (slot r) ∗ Done m d i r ∗ Owe (F := F) d i O) := by
  unfold Scat Free Done Owe scatterWait Prog.lift
  iintro ⟨⟨Hf, Hg, Ht⟩, #Hmw, %W, HO⟩
  iapply (wp_waitLocalO EC Variants.none (thr d i) none none rfl) $$ [Hf HO]
  · isplitl [Hf]; · iexact Hf
    isplitl [HO]; · iexact HO
    iapply (MayWaits.elim (SemLoc.dma (ssem (slot r)))); iexact Hmw
  iintro ⟨⟨Ho, Hb⟩, Hs, HO⟩
  rw [wp_ret]; imodintro
  isplitl [Hb Hg Hs]
  · isplitl [Hb]; · iexact Hb
    isplitl [Hg]; · iexact Hg
    iexact Hs
  isplitl [Ht Ho]
  · isplitl [Ht]; · iexact Ht
    iexact Ho
  isplitr; · iexact Hmw
  iexists _; iexact HO

end Block

end Cert.Proof.Table

end
-- ==== Proof.Ring.lean ====
/-
  The ring of four buffers. Before trip `g` two blocks are being gathered (`g` and `g + 1`), two are being scattered
  (`g - 2` and `g - 1`), the later ones are untouched and the earlier ones have arrived; near either end there are
  fewer. One trip takes that to the next, for every `g`, and the schedule takes all 32 blocks from untouched to arrived.
-/
module

public import proofs.«01_k».proof.Proof.Steps

@[expose] public section

noncomputable section

namespace Cert.Proof.Table

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (d : Dev nD) (i : grid0.Coords)

/-! ## What is held before trip `n` -/

/-- Block number `n`, for `n < 32`. -/
def blk (n : ℕ) : Fin 32 := ⟨n % 32, Nat.mod_lt _ (by decide)⟩

theorem blk_eq {n : ℕ} (h : n < 32) : blk n = ⟨n, h⟩ := Fin.ext (Nat.mod_eq_of_lt h)

/-- The buffer of the `n`-th gather: block `n` is on its way into it; past the last block, the scatter four blocks back is
    still on its way out. -/
def Lead (n : ℕ) : sProp 𝕄 := if n < 32 then Gath m d i (blk n) else Scat m d i (blk (n - 4))
/-- The buffer of the scatter two blocks before `n`; the first two have none and are free. -/
def Trail (n : ℕ) : sProp 𝕄 := if n < 2 then Free (F := F) d i (slot (n + 2)) else Scat m d i (blk (n - 2))
/-- The blocks from `n` on untouched; the blocks before `n` arrived. -/
def todoFrom (n : ℕ) : sProp 𝕄 := bigSep (Finset.univ.filter fun r : Fin 32 => n ≤ r.val) (Todo m d i)
def doneTo (n : ℕ) : sProp 𝕄 := bigSep (Finset.univ.filter fun r : Fin 32 => r.val < n) (Done m d i)

/-- What is held before trip `g` (after the last, at `g = 32`), the blocks apart that have arrived: two fewer than have been passed
    on, and never the last four, which the closing waits collect. -/
def Inv (O : CellTallies nD τ sig (HIx 1)) (g : ℕ) : sProp 𝕄 :=
  iprop(Lead m d i g ∗ Lead m d i (g + 1) ∗ Trail m d i g ∗ Trail m d i (g + 1) ∗ todoFrom m d i (g + 2) ∗ doneTo m d i (min g 30 - 2)
    ∗ Owe (F := F) d i O)

/-- Taking up the next untouched block. -/
theorem todoFrom_step {n : ℕ} (h : n < 32) : todoFrom m d i n = iprop(Todo m d i ⟨n, h⟩ ∗ todoFrom m d i (n + 1)) := by
  unfold todoFrom
  rw [show (Finset.univ.filter fun r : Fin 32 => n ≤ r.val) = insert ⟨n, h⟩ (Finset.univ.filter fun r : Fin 32 => n + 1 ≤ r.val) from by
    ext r; simp only [Finset.mem_filter, Finset.mem_univ, true_and, Finset.mem_insert, Fin.ext_iff]; omega]
  exact SparseCore.bigSep_insert' (by simp)

/-- Counting one more block as arrived. -/
theorem doneTo_step {n : ℕ} (h : n < 32) : doneTo m d i (n + 1) = iprop(Done m d i ⟨n, h⟩ ∗ doneTo m d i n) := by
  unfold doneTo
  rw [show (Finset.univ.filter fun r : Fin 32 => r.val < n + 1) = insert ⟨n, h⟩ (Finset.univ.filter fun r : Fin 32 => r.val < n) from by
    ext r; simp only [Finset.mem_filter, Finset.mem_univ, true_and, Finset.mem_insert, Fin.ext_iff]; omega]
  exact SparseCore.bigSep_insert' (by simp)

/-- Past the last block nothing is untouched. -/
theorem todoFrom_end {n : ℕ} (h : 32 ≤ n) : todoFrom m d i n = todoFrom m d i 32 := by
  unfold todoFrom
  rw [show (Finset.univ.filter fun r : Fin 32 => n ≤ r.val) = Finset.univ.filter fun r : Fin 32 => 32 ≤ r.val from by
    ext r; have := r.isLt; simp only [Finset.mem_filter, Finset.mem_univ, true_and]; omega]

/-- At the start every block is untouched, at the end every block has arrived. -/
theorem todoFrom_zero : todoFrom m d i 0 = bigSep Finset.univ (Todo m d i) := by
  unfold todoFrom; rw [Finset.filter_true_of_mem fun r _ => Nat.zero_le _]
theorem doneTo_all : doneTo m d i 32 = bigSep Finset.univ (Done m d i) := by
  unfold doneTo; rw [Finset.filter_true_of_mem fun r _ => r.isLt]
theorem doneTo_zero : doneTo m d i 0 = iprop(emp) := by
  unfold doneTo; rw [Finset.filter_false_of_mem fun r _ => Nat.not_lt_zero _]; exact bigSep_empty

variable [FloatOps F]

/-! ## One trip -/

/-- The first half of trip `g`: the buffer two ahead takes its next block, if there is one. -/
theorem wp_refill (O : CellTallies nD τ sig (HIx 1)) (g : ℕ) :
    iprop(Trail m d i g ∗ todoFrom m d i (g + 2) ∗ doneTo m d i (min g 30 - 2) ∗ Owe (F := F) d i O)
      ⊢ wp frame (wpE (defs₀ (F := F)) Variants.none (thr d i) none) Set.univ (refill (F := F) i g)
          fun _ => iprop(Lead m d i (g + 2) ∗ todoFrom m d i (g + 3) ∗ doneTo m d i (min (g + 1) 30 - 2) ∗ Owe (F := F) d i O) := by
  unfold refill
  by_cases h : g + 2 < 32
  · rw [dif_pos h, wp_bind, todoFrom_step m d i h, show Lead m d i (g + 2) = Gath m d i ⟨g + 2, h⟩ by unfold Lead; rw [if_pos h, blk_eq h]]
    by_cases h' : 2 ≤ g
    · rw [dif_pos h', show Trail m d i g = Scat m d i ⟨g - 2, by omega⟩ by unfold Trail; rw [if_neg (by omega), blk_eq (by omega)],
        show min g 30 - 2 = g - 2 by omega, show min (g + 1) 30 - 2 = (g - 2) + 1 by omega, doneTo_step m d i (show g - 2 < 32 by omega)]
      iintro ⟨Hs, ⟨Ht, Hts⟩, Hd, HO⟩
      iapply (wp_wand_r Idealize.ShloMosaic.frame (wpE (defs₀ (F := F)) Variants.none (thr d i) none) Set.univ)
      isplitl [Hs HO]
      · iapply (wp_scatterWait m d i O); isplitl [Hs]; · iexact Hs
        iexact HO
      iintro %_ ⟨Hf, Hd', HO⟩
      iapply (wp_wand_r Idealize.ShloMosaic.frame (wpE (defs₀ (F := F)) Variants.none (thr d i) none) Set.univ)
      isplitl [Hf Ht]
      · iapply (wp_gather m d i)
        rw [show slot ((⟨g + 2, h⟩ : Fin 32) : ℕ) = slot ((⟨g - 2, by omega⟩ : Fin 32) : ℕ) from
          Fin.ext (show (g + 2) % 4 = (g - 2) % 4 by omega)]
        isplitl [Hf]; · iexact Hf
        iexact Ht
      iintro %_ Hg
      isplitl [Hg]; · iexact Hg
      isplitl [Hts]; · iexact Hts
      isplitl [Hd Hd']
      · isplitl [Hd']; · iexact Hd'
        iexact Hd
      iexact HO
    · rw [dif_neg h', show Trail m d i g = Free (F := F) d i (slot (g + 2)) by unfold Trail; rw [if_pos (by omega)],
        show min (g + 1) 30 - 2 = min g 30 - 2 by omega, wp_pure]
      iintro ⟨Hf, ⟨Ht, Hts⟩, Hd, HO⟩
      imodintro
      iapply (wp_wand_r Idealize.ShloMosaic.frame (wpE (defs₀ (F := F)) Variants.none (thr d i) none) Set.univ)
      isplitl [Hf Ht]
      · iapply (wp_gather m d i)
        isplitl [Hf]; · iexact Hf
        iexact Ht
      iintro %_ Hg
      isplitl [Hg]; · iexact Hg
      isplitl [Hts]; · iexact Hts
      isplitl [Hd]; · iexact Hd
      iexact HO
  · rw [dif_neg h, wp_pure, todoFrom_end m d i (show 32 ≤ g + 2 by omega), todoFrom_end m d i (show 32 ≤ g + 3 by omega),
      show Trail m d i g = Lead m d i (g + 2) by unfold Trail Lead; rw [if_neg (by omega), if_neg h, show g + 2 - 4 = g - 2 by omega],
      show min (g + 1) 30 - 2 = min g 30 - 2 by omega]
    iintro H
    imodintro
    iexact H

/-- `n` trips from trip `g` to the last. -/
theorem wp_trips (O : CellTallies nD τ sig (HIx 1)) : ∀ (n g : ℕ) (h : g + n = 32),
    Inv m d i O g ⊢ wp frame (wpE (defs₀ (F := F)) Variants.none (thr d i) none) Set.univ (trips (F := F) i n g h) fun _ => Inv m d i O 32
  | 0, g, h => by
    unfold trips
    rw [wp_pure, show g = 32 by omega]
    iintro H
    imodintro
    iexact H
  | n + 1, g, h => by
    have hg : g < 32 := by omega
    unfold trips
    rw [wp_bind]
    unfold Inv
    rw [show Lead m d i g = Gath m d i ⟨g, hg⟩ by unfold Lead; rw [if_pos hg, blk_eq hg]]
    iintro ⟨Hl0, Hl1, Ht0, Ht1, Hts, Hd, HO⟩
    iapply (wp_wand_r Idealize.ShloMosaic.frame (wpE (defs₀ (F := F)) Variants.none (thr d i) none) Set.univ)
    isplitl [Ht0 Hts Hd HO]
    · iapply (wp_refill m d i O g)
      isplitl [Ht0]; · iexact Ht0
      isplitl [Hts]; · iexact Hts
      isplitl [Hd]; · iexact Hd
      iexact HO
    iintro %_ ⟨Hl2, Hts, Hd, HO⟩
    rw [wp_bind]
    iapply (wp_wand_r Idealize.ShloMosaic.frame (wpE (defs₀ (F := F)) Variants.none (thr d i) none) Set.univ)
    isplitl [Hl0 HO]
    · iapply (wp_pass m d i O ⟨g, hg⟩)
      isplitl [Hl0]; · iexact Hl0
      iexact HO
    iintro %_ ⟨Hs, HO⟩
    iapply (wp_trips O n (g + 1) (by omega))
    unfold Inv
    rw [show Trail m d i (g + 1 + 1) = Scat m d i ⟨g, hg⟩ by
      unfold Trail; rw [if_neg (by omega), show g + 1 + 1 - 2 = g by omega, blk_eq hg]]
    isplitl [Hl1]; · iexact Hl1
    isplitl [Hl2]; · iexact Hl2
    isplitl [Ht1]; · iexact Ht1
    isplitl [Hs]; · iexact Hs
    isplitl [Hts]; · iexact Hts
    isplitl [Hd]; · iexact Hd
    iexact HO

/-! ## The whole schedule -/

/-- The four buffers with no transfer under way. -/
def Free4 : sProp 𝕄 := iprop(Free (F := F) d i 0 ∗ Free (F := F) d i 1 ∗ Free (F := F) d i 2 ∗ Free (F := F) d i 3)

/-- One closing wait, block `n`'s: its buffer is free and it counts among the arrived. -/
theorem wp_drain_one (O : CellTallies nD τ sig (HIx 1)) (n : ℕ) (h : n < 32) :
    iprop(Scat m d i ⟨n, h⟩ ∗ doneTo m d i n ∗ Owe (F := F) d i O)
      ⊢ wp frame (wpE (defs₀ (F := F)) Variants.none (thr d i) none) Set.univ (scatterWait (F := F) i ⟨n, h⟩)
          fun _ => iprop(Free (F := F) d i (slot n) ∗ doneTo m d i (n + 1) ∗ Owe (F := F) d i O) := by
  rw [doneTo_step m d i h]
  iintro ⟨Hs, Hd, HO⟩
  iapply (wp_wand_r Idealize.ShloMosaic.frame (wpE (defs₀ (F := F)) Variants.none (thr d i) none) Set.univ)
  isplitl [Hs HO]
  · iapply (wp_scatterWait m d i O)
    isplitl [Hs]; · iexact Hs
    iexact HO
  iintro %_ ⟨Hf, Hd', HO⟩
  isplitl [Hf]; · iexact Hf
  isplitl [Hd Hd']
  · isplitl [Hd']; · iexact Hd'
    iexact Hd
  iexact HO

/-- The closing waits collect the last four blocks. -/
theorem wp_drain (O : CellTallies nD τ sig (HIx 1)) :
    Inv m d i O 32 ⊢ wp frame (wpE (defs₀ (F := F)) Variants.none (thr d i) none) Set.univ (drain (F := F) i)
      fun _ => iprop(Free4 (F := F) d i ∗ doneTo m d i 32 ∗ Owe (F := F) d i O) := by
  unfold Inv drain Free4
  rw [show Lead m d i 32 = Scat m d i 28 from rfl, show Lead m d i (32 + 1) = Scat m d i 29 from rfl,
    show Trail m d i 32 = Scat m d i 30 from rfl, show Trail m d i (32 + 1) = Scat m d i 31 from rfl]
  iintro ⟨H0, H1, H2, H3, -, Hd, HO⟩
  rw [wp_bind]
  iapply (wp_wand_r Idealize.ShloMosaic.frame (wpE (defs₀ (F := F)) Variants.none (thr d i) none) Set.univ)
  isplitl [H0 Hd HO]
  · iapply (wp_drain_one m d i O 28 (by decide))
    isplitl [H0]; · iexact H0
    isplitl [Hd]; · iexact Hd
    iexact HO
  iintro %_ ⟨F0, Hd, HO⟩
  rw [wp_bind]
  iapply (wp_wand_r Idealize.ShloMosaic.frame (wpE (defs₀ (F := F)) Variants.none (thr d i) none) Set.univ)
  isplitl [H1 Hd HO]
  · iapply (wp_drain_one m d i O 29 (by decide))
    isplitl [H1]; · iexact H1
    isplitl [Hd]; · iexact Hd
    iexact HO
  iintro %_ ⟨F1, Hd, HO⟩
  rw [wp_bind]
  iapply (wp_wand_r Idealize.ShloMosaic.frame (wpE (defs₀ (F := F)) Variants.none (thr d i) none) Set.univ)
  isplitl [H2 Hd HO]
  · iapply (wp_drain_one m d i O 30 (by decide))
    isplitl [H2]; · iexact H2
    isplitl [Hd]; · iexact Hd
    iexact HO
  iintro %_ ⟨F2, Hd, HO⟩
  iapply (wp_wand_r Idealize.ShloMosaic.frame (wpE (defs₀ (F := F)) Variants.none (thr d i) none) Set.univ)
  isplitl [H3 Hd HO]
  · iapply (wp_drain_one m d i O 31 (by decide))
    isplitl [H3]; · iexact H3
    isplitl [Hd]; · iexact Hd
    iexact HO
  iintro %_ ⟨F3, Hd, HO⟩
  isplitl [F0 F1 F2 F3]
  · isplitl [F0]; · iexact F0
    isplitl [F1]; · iexact F1
    isplitl [F2]; · iexact F2
    iexact F3
  isplitl [Hd]; · iexact Hd
  iexact HO

/-- The kernel's body on either SparseCore: every one of its 32 blocks of the result ends up holding the table's rows, the
    table unchanged, the buffers free and every transfer's counter back at zero. -/
theorem wp_body (O : CellTallies nD τ sig (HIx 1)) :
    iprop(Free4 (F := F) d i ∗ (bigSep Finset.univ (Todo m d i)) ∗ Owe (F := F) d i O)
      ⊢ wp frame (wpE (defs₀ (F := F)) Variants.none (thr d i) none) Set.univ (body (F := F) i)
          fun _ => iprop(Free4 (F := F) d i ∗ (bigSep Finset.univ (Done m d i)) ∗ Owe (F := F) d i O) := by
  rw [body_eq, ← todoFrom_zero, ← doneTo_all, todoFrom_step m d i (show 0 < 32 by decide), todoFrom_step m d i (show 0 + 1 < 32 by decide)]
  unfold ring
  rw [wp_bind]
  iintro ⟨H4, ⟨T0, T1, Hts⟩, HO⟩
  unfold Free4
  icases H4 with ⟨F0, F1, F2, F3⟩
  iapply (wp_wand_r Idealize.ShloMosaic.frame (wpE (defs₀ (F := F)) Variants.none (thr d i) none) Set.univ)
  isplitl [F0 T0]
  · iapply (wp_gather m d i 0)
    isplitl [F0]; · iexact F0
    iexact T0
  iintro %_ G0
  rw [wp_bind]
  iapply (wp_wand_r Idealize.ShloMosaic.frame (wpE (defs₀ (F := F)) Variants.none (thr d i) none) Set.univ)
  isplitl [F1 T1]
  · iapply (wp_gather m d i 1)
    isplitl [F1]; · iexact F1
    iexact T1
  iintro %_ G1
  rw [wp_bind]
  iapply (wp_wand_r Idealize.ShloMosaic.frame (wpE (defs₀ (F := F)) Variants.none (thr d i) none) Set.univ)
  isplitl [G0 G1 F2 F3 Hts HO]
  · iapply (wp_trips m d i O 32 0 rfl)
    unfold Inv
    rw [show Lead m d i 0 = Gath m d i 0 from rfl, show Lead m d i (0 + 1) = Gath m d i 1 from rfl,
      show Trail m d i 0 = Free (F := F) d i 2 from rfl, show Trail m d i (0 + 1) = Free (F := F) d i 3 from rfl,
      show min 0 30 - 2 = 0 from rfl, doneTo_zero]
    isplitl [G0]; · iexact G0
    isplitl [G1]; · iexact G1
    isplitl [F2]; · iexact F2
    isplitl [F3]; · iexact F3
    isplitl [Hts]; · iexact Hts
    isplitr; · iempintro
    iexact HO
  iintro %_ HI
  iapply (wp_drain m d i O)
  iexact HI

end Cert.Proof.Table

end
-- ==== Proof.Blocks.lean ====
/-
  The blocks make up the arrays. The two SparseCores' 32 blocks of 128 rows each cut the 8192 rows into 64 pieces without
  overlap, so the table and the result, held whole, are the blocks held one by one.
-/
module

public import proofs.«01_k».proof.Proof.Steps

@[expose] public section

noncomputable section

namespace Cert.Proof.Table

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (d : Dev nD)

/-- The grid point SparseCore `c` runs at. -/
def coords (c : Fin (grid0.bound 0)) : grid0.Coords := fun | 0 => c | ⟨_ + 1, h⟩ => absurd h (Nat.not_lt.2 (Nat.le_add_left _ _))

/-- The elements of block `p.2` of SparseCore `p.1`. -/
def rows (p : Fin (grid0.bound 0) × Fin 32) : Finset S8192x2048.Idx :=
  (Rect.unit (s := S8192x2048) (k0_off1 (coords p.1) (BitVec.ofNat 32 (128 * p.2.val))) S128x2048.size (k0_off1_inb (coords p.1) p.2)).set

/-- They are those whose row is among the block's 128. -/
theorem mem_rows (p : Fin (grid0.bound 0) × Fin 32) (x : S8192x2048.Idx) :
    x ∈ rows p ↔ 4096 * p.1.val + 128 * p.2.val ≤ (x 0).val ∧ (x 0).val < 4096 * p.1.val + 128 * p.2.val + 128 := by
  unfold rows
  rw [Rect.mem_set_unit, k0_off1_eq]
  refine ⟨fun h => h 0, fun h a => ?_⟩
  match a with
  | 0 => exact h
  | 1 => exact ⟨Nat.zero_le _, (x 1).isLt.trans_eq (Nat.zero_add _).symm⟩

/-- No two blocks share an element. -/
theorem rows_disjoint (p p' : Fin (grid0.bound 0) × Fin 32) (h : p ≠ p') : Disjoint (rows p) (rows p') := by
  rw [Finset.disjoint_left]
  intro x hx hx'
  rw [mem_rows] at hx hx'
  have h1 := p.2.isLt
  have h2 := p'.2.isLt
  exact h (Prod.ext (Fin.ext (by omega)) (Fin.ext (by omega)))

/-- Every element is in a block. -/
theorem rows_cover : (Finset.univ ×ˢ Finset.univ : Finset (Fin (grid0.bound 0) × Fin 32)).biUnion rows = Finset.univ := by
  ext x
  simp only [Finset.mem_biUnion, Finset.mem_product, Finset.mem_univ, true_and, iff_true, and_self]
  have hx : (x 0).val < 8192 := (x 0).isLt
  refine ⟨⟨⟨(x 0).val / 4096, show (x 0).val / 4096 < 2 by omega⟩, ⟨(x 0).val % 4096 / 128, by omega⟩⟩, ?_⟩
  rw [mem_rows]
  dsimp only
  omega

/-- The table whole is its blocks. -/
theorem tab_blocks :
    (tabLoc d ↦{fullShare} m (tabLoc d) : sProp 𝕄) = bigSep Finset.univ fun c => bigSep Finset.univ fun r => tabPts m d (coords c) r := by
  refine Eq.trans ?_ (SparseCore.bigSep_product Finset.univ Finset.univ fun p : Fin (grid0.bound 0) × Fin 32 => tabPts m d (coords p.1) p.2)
  refine Eq.trans (congrArg (fun I => (tabLoc d ↦[I]{fullShare} m (tabLoc d) : sProp 𝕄)) rows_cover.symm) ?_
  refine (pointsTo_biUnion (ℓ := tabLoc d) _ rows fun p _ p' _ h => rows_disjoint p p' h).trans ?_
  refine bigSep_congr fun p _ => ?_
  unfold tabPts
  exact congrArg (fun I => (tabLoc d ↦[I]{fullShare} m (tabLoc d) : sProp 𝕄)) (View.set_slice_whole _ _).symm

/-- The result whole is its blocks, whatever it holds. -/
theorem out_blocks (f : Buf (Elt F) (outLoc d)) :
    (outLoc d ↦{fullShare} f : sProp 𝕄) = bigSep Finset.univ fun c => bigSep Finset.univ fun r => outPts d (coords c) r f := by
  refine Eq.trans ?_ (SparseCore.bigSep_product Finset.univ Finset.univ fun p : Fin (grid0.bound 0) × Fin 32 => outPts d (coords p.1) p.2 f)
  refine Eq.trans (congrArg (fun I => (outLoc d ↦[I]{fullShare} f : sProp 𝕄)) rows_cover.symm) ?_
  refine (pointsTo_biUnion (ℓ := outLoc d) _ rows fun p _ p' _ h => rows_disjoint p p' h).trans ?_
  refine bigSep_congr fun p _ => ?_
  unfold outPts
  exact congrArg (fun I => (outLoc d ↦[I]{fullShare} f : sProp 𝕄)) (View.set_slice_whole _ _).symm

/-- The two arrays at launch are every block of both SparseCores not yet taken up. -/
theorem todo_all :
    (iprop((tabLoc d ↦{fullShare} m (tabLoc d)) ∗ outLoc d ↦{fullShare} m (outLoc d)) : sProp 𝕄)
      = bigSep Finset.univ fun c => bigSep Finset.univ (Todo m d (coords c)) := by
  rw [tab_blocks, out_blocks, ← bigSep_sep']
  refine bigSep_congr fun c _ => ?_
  rw [← bigSep_sep']
  rfl

/-- The two arrays with the table copied into the result are every block of both SparseCores arrived. -/
theorem done_all :
    (iprop((tabLoc d ↦{fullShare} m (tabLoc d)) ∗ outLoc d ↦{fullShare} copied m d) : sProp 𝕄)
      = bigSep Finset.univ fun c => bigSep Finset.univ (Done m d (coords c)) := by
  rw [tab_blocks, out_blocks, ← bigSep_sep']
  refine bigSep_congr fun c _ => ?_
  rw [← bigSep_sep']
  rfl

end Cert.Proof.Table

end
-- ==== Proof.Subcore.lean ====
/-
  The kernel as one scalar subcore of the launch runs it: the subcore's own buffers are the four shared buffers and the rest,
  its own counters the eight the kernel uses and the rest; around `wp_body` they are taken out and put back.
-/
module

public import proofs.«01_k».proof.Proof.Ring
public import proofs.«01_k».proof.Proof.Blocks

@[expose] public section

noncomputable section

namespace Cert.Proof.Table

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type}

local notation "𝕄" => MT nD τ sig (HIx 1) (Elt F) ℕ UU ℕ

/-! ## The program as the launch sees it -/

abbrev ΛP : Labels := Pipeline.Sig Λ₀ (Fin 0) fun p => (pcfgs (F := F) p).Adm
abbrev K : SparseCore.Cfg τ sig (ΛP (F := F)) 1 := sc (F := F)

/-- What the launch asks of its semaphores and of the SparseCores' buffers. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable (m : (ℓ : Loc nD τ sig) → Buf (Elt F) ℓ) (d : Dev nD)

/-! ## The subcore's own buffers and counters -/

/-- Buffer `j` of SparseCore `c`, among the device's buffers. -/
abbrev bufD (c : Fin τ.nSC) (j : Fin 4) : DevRef τ sig := (Proc.scScalar c).devRef (bufR j)

/-- Buffer `j`'s gather counter (`b = 0`) or scatter counter (`b = 1`) of SparseCore `c`. -/
abbrev cell (c : Fin τ.nSC) (p : Fin 4 × Fin 2) : GSem nD τ sig := (S d c, .dma ⟨4 * p.2.val + p.1.val, by have := p.1.isLt; have := p.2.isLt; show _ < 8; omega⟩)

theorem bufD_inj (c : Fin τ.nSC) : Function.Injective (bufD c) := by
  intro a b h
  have := congrArg (fun x : DevRef τ sig => x.idx.val) h
  exact Fin.ext this

theorem cell_inj (c : Fin τ.nSC) : Function.Injective (cell d c) := by
  intro a b h
  have h := congrArg (fun g : GSem nD τ sig => g.2) h
  simp only [SemLoc.dma.injEq, Fin.mk.injEq] at h
  have h1 := a.1.isLt
  have h2 := b.1.isLt
  exact Prod.ext (Fin.ext (by omega)) (Fin.ext (by omega))

/-- A buffer held whole at some contents, as the kernel's memref addresses it. -/
theorem buf_eq (i : grid0.Coords) (j : Fin 4) :
    (iprop(∃ f, ((d, bufD ((i 0).castLE hcore0) j) : Loc nD τ sig) ↦{fullShare} f) : sProp 𝕄) = bufPts (F := F) d i j := by
  unfold bufPts
  match j with
  | 0 | 1 | 2 | 3 => simp only [bufM, Memref.view_whole, View.set_whole]

/-- The own buffers: the four, and the rest. -/
theorem ownBufs_eq (i : grid0.Coords) :
    (ownBufs (thr d i) : sProp 𝕄)
      = iprop((bigSep Finset.univ (bufPts (F := F) d i))
          ∗ bigSep (ownRefs (τ := τ) (.scScalar ((i 0).castLE hcore0)) \ Finset.univ.image (bufD ((i 0).castLE hcore0)))
              fun b => iprop(∃ f, ((d, b) : Loc nD τ sig) ↦{fullShare} f)) := by
  unfold SparseCore.Cfg.ownBufs
  rw [SparseCore.bigSep_sdiff_split' (t := Finset.univ.image (bufD ((i 0).castLE hcore0)))
      (Finset.image_subset_iff.mpr fun j _ => (mem_ownRefs (p := Proc.scScalar ((i 0).castLE hcore0)) (b := bufD ((i 0).castLE hcore0) j)).mpr rfl),
    SparseCore.bigSep_image_of_injOn (bufD_inj _).injOn, bigSep_congr fun j _ => buf_eq d i j]

/-- The own counters at zero: the kernel's eight, buffer by buffer, and the rest. -/
theorem ownSems0_eq (i : grid0.Coords) :
    (ownSems0 (thr d i) : sProp 𝕄)
      = iprop((bigSep Finset.univ fun j => iprop(gZero (F := F) d i j ∗ sZero (F := F) d i j))
          ∗ bigSep (ownCells (thr d i) \ (Finset.univ ×ˢ Finset.univ).image (cell d ((i 0).castLE hcore0))) fun g => semVal g 0) := by
  unfold SparseCore.Cfg.ownSems0
  rw [SparseCore.bigSep_sdiff_split' (t := (Finset.univ ×ˢ Finset.univ).image (cell d ((i 0).castLE hcore0)))
      (Finset.image_subset_iff.mpr fun p _ => mem_ownCells.mpr
        ⟨rfl, (show ∀ s : DmaSem sig, (SemLoc.dma s : SemLoc sig).isScoped .scScalar = true by decide) _⟩),
    SparseCore.bigSep_image_of_injOn (cell_inj d _).injOn, SparseCore.bigSep_product]
  refine congrArg (fun A : sProp 𝕄 => iprop(A ∗ _)) (bigSep_congr fun j _ => ?_)
  rw [bigSep_fin_two]
  unfold gZero sZero gsem ssem cell
  simp only [Fin.val_zero, Fin.val_one, Nat.mul_zero, Nat.mul_one, Nat.zero_add]
  rfl

/-- The four buffers free, all together. -/
theorem free4_eq (i : grid0.Coords) :
    Free4 (F := F) d i
      = iprop((bigSep Finset.univ (bufPts (F := F) d i)) ∗ bigSep Finset.univ fun j => iprop(gZero (F := F) d i j ∗ sZero (F := F) d i j)) := by
  rw [← bigSep_sep', show (Finset.univ : Finset (Fin 4)) = {0, 1, 2, 3} by decide, SparseCore.bigSep_insert' (by decide),
    SparseCore.bigSep_insert' (by decide), SparseCore.bigSep_insert' (by decide), bigSep_singleton]
  rfl

variable [FloatOps F]

/-! ## The obligation -/

/-- The kernel on SparseCore `i 0`'s scalar subcore, in the launch's terms: from its blocks not taken up to its blocks arrived, the
    subcore's scoped buffers and counters handed back as they came. -/
theorem subcore_run (i : grid0.Coords) (O : CellTallies nD τ sig (HIx 1)) (W : Waits sig (HIx 1)) (hO : ∀ g, O g none = 0) :
    iprop(levAts (K (F := F)).L (K (F := F)).lev ∗ emp ∗ (bigSep Finset.univ (Todo m d i))
        ∗ scopedBufs (thr d i) ∗ scopedSems0 (thr d i) ∗ owes (thr d i) O W)
      ⊢ wp frame (wpE (defs₀ (F := F)) Variants.none (thr d i) none) Set.univ (body (F := F) i)
          fun _ => iprop((bigSep Finset.univ (Done m d i)) ∗ scopedBufs (thr d i) ∗ scopedSems0 (thr d i)
            ∗ ∃ W', ⌜∀ p ∈ W', p ∈ W ∨ p.2 = none ∨ p.2 = some (0 : Fin 1)⌝ ∗ owes (thr d i) O W') := by
  rw [(K (F := F)).scopedBufs_S facts d _, SparseCore.Cfg.scopedSems0_S (Val := Elt F) d _, ownSems0_eq, ownBufs_eq]
  iintro ⟨#Hlv, -, Ht, ⟨⟨Hb, Hbs⟩, Htb⟩, ⟨⟨Hc, Hcs⟩, Htc⟩, HO⟩
  ihave Hmw := ((K (F := F)).mayWaits_none (thr := thr d i) hO) $$ Hlv
  iapply (wp_wand_r Idealize.ShloMosaic.frame (wpE (defs₀ (F := F)) Variants.none (thr d i) none) Set.univ)
  isplitl [Hb Hc Ht Hmw HO]
  · iapply (wp_body m d i O)
    rw [free4_eq]
    isplitl [Hb Hc]
    · isplitl [Hb]; · iexact Hb
      iexact Hc
    isplitl [Ht]; · iexact Ht
    unfold Owe
    isplitl [Hmw]; · iexact Hmw
    iexists W; iexact HO
  rw [free4_eq]
  unfold Owe
  iintro %_ ⟨⟨Hb, Hc⟩, Hd, -, %W', HO⟩
  isplitl [Hd]; · iexact Hd
  isplitl [Hb Hbs Htb]
  · isplitl [Hb Hbs]
    · isplitl [Hb]; · iexact Hb
      iexact Hbs
    iexact Htb
  isplitl [Hc Hcs Htc]
  · isplitl [Hc Hcs]
    · isplitl [Hc]; · iexact Hc
      iexact Hcs
    iexact Htc
  iexists W'
  isplitr
  · ipureintro
    intro p _
    rcases p.2 with _ | q
    · exact .inr (.inl rfl)
    · exact .inr (.inr (congrArg some (Subsingleton.elim q 0)))
  · iexact HO

end Cert.Proof.Table

end
-- ==== Proof.Launch.lean ====
/-
  The program's run. The TensorCore starts the kernel on both SparseCores, handing each its blocks of the table and of the
  result, waits for both, and lays the result out as the program's result with a leading dimension of one. Of the run: it
  terminates, nothing faulting, both arguments end unchanged, the program's result is the table so laid out, and every
  semaphore counter is back at zero (`run_main`, at any float values and operations).
-/
module

public import proofs.«01_k».proof.Proof.Subcore

@[expose] public section

noncomputable section

namespace Cert.Proof.Table

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type}

local notation "𝕄" => MT nD τ sig (HIx 1) (Elt F) ℕ UU ℕ

abbrev D [FloatOps F] : Defs nD τ sig (Elt F) (ΛP (F := F)) := Pipeline.defs pcfgs defs₀
abbrev 𝒱 : Variants := Variants.none.lift
abbrev v₀ : 𝒱.V := Sum.inl none

/-- The launch handshakes' rounds, the algebra's left factor. -/
abbrev EH : Emb UH (MT nD τ sig (HIx 1) (Elt F) ℕ UU ℕ) := embL

variable (m : (ℓ : Loc nD τ sig) → Buf (Elt F) ℓ) (ρ : Dev nD → PrngReg)

/-! ## What the call carries -/

/-- The call takes to each SparseCore its blocks not taken up, and brings them back arrived. -/
def P : (K (F := F)).Pay (nD := nD) (Val := Elt F) (Name := ℕ) (U := UU) where
  st := fun q d c => match q, c with | 0, c => bigSep Finset.univ (Todo m d (coords c))
  dn := fun q d c => match q, c with | 0, c => bigSep Finset.univ (Done m d (coords c))
  go := fun _ _ _ _ => iprop(emp)
  td := fun _ _ _ _ => iprop(emp)
  x := fun _ _ => iprop(emp)

instance Todo_storable (d : Dev nD) (i : grid0.Coords) (r : Fin 32) : BI.Storable (upEmb : UEmb _ 𝕄) (Todo m d i r) := by
  unfold Todo tabPts outPts; infer_instance
instance Done_storable (d : Dev nD) (i : grid0.Coords) (r : Fin 32) : BI.Storable (upEmb : UEmb _ 𝕄) (Done m d i r) := by
  unfold Done tabPts outPts; infer_instance

instance P_storable : (P (F := F) m).IsStorable where
  st q d c := match q, c with
    | 0, c => (inferInstance : BI.Storable (upEmb : UEmb _ 𝕄) (bigSep Finset.univ (Todo m d (coords c))))
  dn q d c := match q, c with
    | 0, c => (inferInstance : BI.Storable (upEmb : UEmb _ 𝕄) (bigSep Finset.univ (Done m d (coords c))))
  go _ _ _ _ := by unfold P; infer_instance
  td _ _ _ _ := by unfold P; infer_instance

variable [FloatOps F]

/-- The kernel's body on SparseCore `c`. -/
def bodyAt (c : Fin (grid0.bound 0)) : Prog (TpuEff nD τ sig (Elt F) Λ₀ (.scScalar (c.castLE hcore0))) PUnit := body (F := F) (coords c)

/-- The kernel as the launch names it is that body. -/
theorem defs₀_scalar (c : Fin τ.nSC) : defs₀ (F := F) (.scScalar c) 0 () = SparseCore.onCore hcore0 (bodyAt (F := F)) ⟨⟩ c := rfl

attribute [local irreducible] cc0__scs_body in
/-- Either SparseCore's scalar subcore does what the call's payloads say. -/
theorem scalarObl : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) Variants.none _ Set.univ none _ _)
  have hc : ((K (F := F)).core 0 c).val < grid0.bound 0 := c.isLt
  rw [defs₀_scalar]
  simp only [SparseCore.onCore, hc, ↓reduceDIte]
  exact subcore_run m d (coords ⟨_, hc⟩) O W hO

/-! ## The launch element -/

omit [FloatOps F] in
/-- Nothing held for each is nothing held. -/
theorem emp_all {I : Type} (s : Finset I) : (bigSep s fun _ => iprop(emp)) = (iprop(emp) : sProp 𝕄) := bigSep_emp_const s

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emp_all]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), emp_all]
  iempintro

/-! ## The program on the TensorCore -/

abbrev x' : DevRef τ sig := Proc.devRef .tc (main_arg0 : Ref sig .tc)
abbrev t' : DevRef τ sig := Proc.devRef .tc (main_arg1 : Ref sig .tc)
abbrev o' : DevRef τ sig := Proc.devRef .tc (main_v0 : Ref sig .tc)
abbrev r' : DevRef τ sig := Proc.devRef .tc (main_v1 : Ref sig .tc)
abbrev xLoc (d : Dev nD) : Loc nD τ sig := (SparseCore.T d).loc main_arg0
abbrev resLoc (d : Dev nD) : Loc nD τ sig := (SparseCore.T d).loc main_v1

/-- The table with a leading dimension of one. -/
abbrev layOut (f : FVec F S8192x2048 .f32) : FVec F S1x8192x2048 .f32 :=
  broadcastInDim S1x8192x2048 ![1, 2] bcast_S8192x2048_S1x8192x2048_1_2 f
abbrev opLay : HloOp τ sig (Elt F) :=
  StableHlo.unary main_v0 main_v1 (layOut : (⟨S8192x2048, .f32⟩ : BufTy).Contents (Elt F) → (⟨S1x8192x2048, .f32⟩ : BufTy).Contents (Elt F))

/-- What the program's result holds at the end. -/
abbrev Res (d : Dev nD) : Buf (Elt F) (resLoc d) := layOut (m (tabLoc d) : FVec F S8192x2048 .f32)

/-- The TensorCore's four arrays. -/
abbrev S4 : Finset (DevRef τ sig) := {x', t', o', r'}

omit [FloatOps F] in
theorem held_S4 (d : Dev nD) (W : Valuation τ sig (Elt F)) :
    (held (T d) S4 W : sProp 𝕄)
      = iprop((xLoc d ↦{fullShare} W x') ∗ (tabLoc d ↦{fullShare} W t') ∗ (outLoc d ↦{fullShare} W o') ∗ resLoc d ↦{fullShare} W r') := by
  unfold held S4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((xLoc d ↦{fullShare} W main_arg0) ∗ (tabLoc d ↦{fullShare} W main_arg1) ∗ (outLoc d ↦{fullShare} W main_v0)
          ∗ resLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- The arrays after the call: the result's buffer at the table, the others as at launch. -/
def V1 (d : Dev nD) : Valuation τ sig (Elt F) := Function.update (fun b => m (d, b)) o' (copied m d)

omit [FloatOps F] in
theorem V1_o (d : Dev nD) : V1 m d o' = copied m d := Function.update_self _ _ _
omit [FloatOps F] in
theorem V1_of_ne (d : Dev nD) (b : DevRef τ sig) (h : b ≠ o') : V1 m d b = m (d, b) := Function.update_of_ne h _ _

/-- Both SparseCores' payloads are the two arrays whole. -/
theorem st_eq (d : Dev nD) :
    (bigSep Finset.univ fun c : Fin ((K (F := F)).nCore 0) => (P m).st 0 d c)
      = iprop((tabLoc d ↦{fullShare} m (tabLoc d)) ∗ outLoc d ↦{fullShare} m (outLoc d)) := (todo_all m d).symm
theorem dn_eq (d : Dev nD) :
    (bigSep Finset.univ fun c : Fin ((K (F := F)).nCore 0) => (P m).dn 0 d c)
      = iprop((tabLoc d ↦{fullShare} m (tabLoc d)) ∗ outLoc d ↦{fullShare} copied m d) := (done_all m d).symm

theorem hLay : (opLay (F := F)).bufs ⊆ S4 := show ({o', r'} : Finset (DevRef τ sig)) ⊆ S4 by decide

/-- The four arrays after the last operation: the arguments as at launch, the result the table laid out. -/
theorem held_end (d : Dev nD) :
    (held (T d) S4 ((opLay (F := F)).result (V1 m d)) : sProp 𝕄)
      = iprop((xLoc d ↦{fullShare} m (xLoc d)) ∗ (tabLoc d ↦{fullShare} m (tabLoc d)) ∗ (outLoc d ↦{fullShare} (opLay (F := F)).result (V1 m d) o')
          ∗ resLoc d ↦{fullShare} Res m d) := by
  rw [held_S4, (opLay (F := F)).result_of_not_mem (V1 m d) (b := x') (show x' ∉ ({r'} : Finset (DevRef τ sig)) by decide),
    (opLay (F := F)).result_of_not_mem (V1 m d) (b := t') (show t' ∉ ({r'} : Finset (DevRef τ sig)) by decide),
    V1_of_ne m d x' (by decide), V1_of_ne m d t' (by decide),
    show (opLay (F := F)).result (V1 m d) r' = Res m d from (StableHlo.unary_result _ _ _ _ _ _).trans (congrArg layOut (V1_o m d))]

/-- What the program leaves the claims: the arguments at their launch contents and the result at the table laid out. -/
abbrev FIN (d : Dev nD) : sProp 𝕄 :=
  iprop((xLoc d ↦{fullShare} m (xLoc d)) ∗ (tabLoc d ↦{fullShare} m (tabLoc d)) ∗ resLoc d ↦{fullShare} Res m d)

/-- The program on device `d`'s TensorCore: the call, then the laying out. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Ht, Ho, Hr⟩, Hts, -⟩, -⟩
  iapply ((K (F := F)).wp_run (D (F := F)) 𝒱 (EH := EH) (P := P m) κ d 0) $$ [Hst Hx Ht Ho Hb Hr Hts]
  isplitr; · iexact Hctx
  isplitl [Hst]; · iexact Hst
  isplitl [Ht Ho]
  · rw [st_eq]
    isplitl [Ht]; · iexact Ht
    iexact Ho
  iintro ⟨Hst, Hdn⟩
  ihave Hdn' := (Entails.of_eq (dn_eq m d)) $$ Hdn
  icases Hdn' with ⟨Ht, Ho⟩
  iapply (wp_hlo_within 𝒱 (SparseCore.T d) none Set.univ (op := opLay) (S := S4) hLay (V := V1 m d)) $$ [Hb Hx Ht Ho Hr]
  · isplitl [Hb]; · iexact Hb
    rw [held_S4, V1_o, V1_of_ne m d x' (by decide), V1_of_ne m d t' (by decide), V1_of_ne m d r' (by decide)]
    isplitl [Hx]; · iexact Hx
    isplitl [Ht]; · iexact Ht
    isplitl [Ho]; · iexact Ho
    iexact Hr
  iintro ⟨Hb, Hheld⟩
  ihave Hh := (Entails.of_eq (held_end (F := F) m d)) $$ Hheld
  icases Hh with ⟨Hx, Ht, -, Hr⟩
  rw [wp_ret]; imodintro; imodintro
  isplitl [Hst]; · iexact Hst
  isplitr [Hb Hts]
  · isplitl [Hx]; · iexact Hx
    isplitl [Ht]; · iexact Ht
    iexact Hr
  isplitl [Hb] <;> iassumption

/-- What the claims read of device `d`'s final state. -/
def fq (d : Dev nD) (s' : Phys nD τ sig (Elt F)) : Prop :=
  s'.mem.mem (resLoc d) = Res m d ∧ s'.mem.mem (xLoc d) = m (xLoc d) ∧ s'.mem.mem (tabLoc d) = m (tabLoc d)

theorem hfin (d : Dev nD) (s' : Phys nD τ sig (Elt F)) : iprop(FIN m d ∗ SI s') ⊢ (⌜fq m d s'⌝ : sProp 𝕄) := by
  iintro ⟨⟨Hx, Ht, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%hx, HSI, -⟩
  ihave H := (persistent_entails_right (SI_pointsTo_agree (st := s') (ℓ := tabLoc d) (I := Finset.univ) (q := fullShare) (f := m (tabLoc d)))) $$ [HSI Ht]
  · isplitl [HSI] <;> iassumption
  icases H with ⟨%ht, HSI, -⟩
  ihave H := (SI_pointsTo_agree (st := s') (ℓ := resLoc d) (I := Finset.univ) (q := fullShare) (f := Res m d)) $$ [HSI Hr]
  · isplitl [HSI] <;> iassumption
  icases H with %hr
  ipureintro
  exact ⟨funext fun i => hr i (Finset.mem_univ i), funext fun i => hx i (Finset.mem_univ i), funext fun i => ht i (Finset.mem_univ i)⟩

/-! ## The run -/

/-- The final state: on every device the result is the table laid out and the arguments are as at launch; every counter is at zero. -/
def QC : PUnit × MemSt nD τ sig (Elt F) → Prop := fun r =>
  (∀ c : Dev nD, r.2.mem (resLoc c) = Res m c ∧ r.2.mem (xLoc c) = m (xLoc c) ∧ r.2.mem (tabLoc c) = m (tabLoc c)) ∧ r.2.sem = fun _ => 0

/-- Every weakly fair execution of the program terminates, nothing faulting, in such a state. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q _ => match q with | 0 => scalarObl m)
    (fun q hq => match q with | 0 => nomatch hq)
    (fun q hq => match q with | 0 => nomatch hq)
    m ρ main (fun _ => iprop(emp)) (FIN m) (u₀ (F := F)) (sep_elim_left.trans (hu₀ m)) (hmain m ρ) (fq m) (hfin m) (QC m) (fun _ h hz => ⟨h, hz⟩)

end Cert.Proof.Table

end
-- ==== Proof.Take.lean ====
/-
  The reference's value. The reference takes the table's rows by their own numbers: it counts the rows, wraps a negative
  number round, checks that each number is a row's, gathers the rows, and puts a filler where the check fails. Every number
  here is its own row's and none is negative, so nothing wraps, every check passes and the gathered array is the table
  (`taken_eq`). So the reference's result is the table with a leading dimension of one (`run_ref`, at any float values).
-/
module

public import proofs.«01_k».proof.Proof.Gen.ReferenceIdeal.Run
public import Idealize.ShloMosaic.Lib.ReduceAll
public import Idealize.ShloMosaic.Lib.ValueIdxCore
public import Idealize.ShloMosaic.Lib.Quiescent

@[expose] public section

noncomputable section

namespace Cert.Proof.Take

open Cert.ReferenceIdeal Cert.ReferenceIdeal.Gen
open Idealize.ShloMosaic Idealize.ShloMosaic.TcCoe Idealize.ShloMosaic.ValueIdx Idealize.SL.Sem

/-! ## A gather of whole rows -/

/-- The place in a column of row numbers that names row `j 0`. -/
abbrev colIx {n c : Nat} (j : (⟨2, ![n, c]⟩ : Shape).Idx) : (⟨2, ![n, 1]⟩ : Shape).Idx := ix2 (j 0) (0 : Fin 1)

/-- A gather of whole rows of an `[N, C]` array, its row numbers a column: where the number for row `j 0` is a row `k` of the
    array, the result at `j` is the array's element of row `k` and `j`'s column. -/
theorem gather_row {α : Type} {N n C w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (j : (⟨2, ![n, C]⟩ : Shape).Idx)
    (k : Fin N) (hk : (idx (colIx j)).toInt.toNat = k.val) :
    Host.gather d x idx j = x (ix2 k (j 1)) := by
  have hsl : d.sliceSizes 0 = 1 := d.slice_collapsed 0 (by rw [hcoll]; exact List.mem_singleton.mpr rfl)
  have hk0 : (0 : Fin 2) ∉ d.sKept := by rw [GatherDims.mem_sKept, hcoll]; simp
  have hb : ∀ a : Fin 2, a ∉ d.operandBatchingDims := fun a => by rw [hob]; exact List.not_mem_nil
  have hm0 : (0 : Fin 2) ∈ d.startIndexMap := by rw [hsim]; exact List.mem_singleton.mpr rfl
  have hm1 : (1 : Fin 2) ∉ d.startIndexMap := by rw [hsim]; simp
  have hsi : d.siIdx j ⟨d.startIndexMap.idxOf 0, List.idxOf_lt_length_iff.2 hm0⟩ = colIx j := by
    obtain ⟨_, _, _, _, _, _, sl, wf⟩ := d
    subst hoff hcoll hob hsim hivd
    funext b
    refine Fin.ext ?_
    match b with
    | ⟨0, _⟩ => rfl
    | ⟨1, _⟩ => rfl
  have hcol : d.offCoord j 1 = (j 1).val := by
    obtain ⟨_, _, _, _, _, _, sl, wf⟩ := d
    subst hoff hcoll hob hsim hivd
    rfl
  unfold Host.gather
  congr 1
  funext a
  refine Fin.ext ?_
  have h01 : a = 0 ∨ a = 1 := by
    match a with
    | ⟨0, _⟩ => exact Or.inl rfl
    | ⟨1, _⟩ => exact Or.inr rfl
  show d.start j idx a + d.batchCoord j a + d.offCoord j a = _
  rw [GatherDims.batchCoord_eq_zero _ _ _ (hb a), Nat.add_zero]
  rcases h01 with rfl | rfl
  · rw [GatherDims.offCoord_eq_zero _ _ _ hk0, Nat.add_zero]
    unfold GatherDims.start
    rw [dif_pos hm0, hsi, hk, hsl]
    show min k.val (N - 1) = k.val
    have := k.isLt
    omega
  · unfold GatherDims.start
    rw [dif_neg hm1, Nat.zero_add, hcol]
    rfl

/-! ## Numbers below 8192 as signed 32-bit words -/

/-- A row's number, as a 32-bit word read signed, is itself. -/
theorem toInt_row (k : Fin 8192) : (BitVec.ofNat 32 k.val).toInt = k.val := by
  have := k.isLt
  rw [BitVec.toInt_eq_toNat_cond, BitVec.toNat_ofNat, Nat.mod_eq_of_lt (by omega), if_pos (by omega)]

/-- A row's number is not below 0. -/
theorem slt_zero (k : Fin 8192) : BitVec.slt (BitVec.ofNat 32 k.val) 0#32 = false := by
  rw [BitVec.slt_eq_decide, toInt_row, BitVec.toInt_zero]
  exact decide_eq_false (by omega)

/-- 0 is at most a row's number. -/
theorem zero_sle (k : Fin 8192) : BitVec.sle 0#32 (BitVec.ofNat 32 k.val) = true := by
  rw [BitVec.sle_eq_decide, toInt_row, BitVec.toInt_zero]
  exact decide_eq_true (by omega)

/-- A row's number is at most 8191. -/
theorem sle_last (k : Fin 8192) : BitVec.sle (BitVec.ofNat 32 k.val) 8191#32 = true := by
  have h := toInt_row ⟨8191, by decide⟩
  have := k.isLt
  rw [BitVec.sle_eq_decide, toInt_row]
  exact decide_eq_true (by rw [show (8191#32 : BitVec 32).toInt = 8191 from h]; omega)

/-! ## The rows taken -/

/-- The row numbers: a count from 0, a negative number wrapped round. -/
abbrev nums : IVec S8192 32 :=
  select (cmpi .slt (iotaInDim S8192 32 0) (broadcastInDim S8192 ![] bcast_S_S8192 (constantI S_ 32 0#32)))
    (addi (iotaInDim S8192 32 0) (broadcastInDim S8192 ![] bcast_S_S8192 (constantI S_ 32 8192#32))) (iotaInDim S8192 32 0)

/-- The row numbers as a column. -/
abbrev col : IVec S8192x1 32 := broadcastInDim S8192x1 ![0] bcast_S8192_S8192x1_0 nums

/-- Which numbers are a row's: at least 0 and at most 8191. -/
abbrev inRange : IVec S8192x1 1 :=
  andi (cmpi .sge col (broadcastInDim S8192x1 ![] bcast_S_S8192x1 (constantI S_ 32 0#32)))
    (cmpi .sle col (broadcastInDim S8192x1 ![0, 1] bcast_S1x1_S8192x1_0_1
      (broadcastInDim S1x1 ![1] bcast_S1_S1x1_1 (constantI S1 32 8191#32))))

/-- The range checks, one for each row. -/
abbrev checks : IVec S8192 1 :=
  Host.reduce IntOp.andi inRange (constantI S_ 1 1#1) reducesTo_S8192x1_S8192_d1 h_S_

/-- Number `i` is `i`: it is not negative, so it isn't wrapped. -/
theorem nums_apply (i : S8192.Idx) : nums i = BitVec.ofNat 32 (i 0).val := by
  show Scalar.select (BitVec.ofBool (BitVec.slt (BitVec.ofNat 32 (i 0).val) 0#32)) _ (BitVec.ofNat 32 (i 0).val) = _
  rw [slt_zero (i 0)]
  rfl

/-- The column's number in row `i 0` is `i 0`. -/
theorem col_apply (i : S8192x1.Idx) : col i = BitVec.ofNat 32 (i 0).val := nums_apply _

/-- Every number is in range. -/
theorem inRange_apply (i : S8192x1.Idx) : inRange i = 1#1 := by
  show IntOp.andi (BitVec.ofBool (BitVec.sle 0#32 (col i))) (BitVec.ofBool (BitVec.sle (col i) 8191#32)) = 1#1
  rw [col_apply, zero_sle (i 0), sle_last (i 0)]
  rfl

/-- Every row's check passes. -/
theorem checks_apply (i : S8192.Idx) : checks i = 1#1 :=
  Host.reduce_andi_one _ _ _ _ _ rfl inRange_apply

variable {F : FTy → Type} [FloatOps F]

/-- The rows taken from the table `x`, the filler where a row's check fails. -/
abbrev taken (x : FVec F S8192x2048 .f32) : FVec F S8192x2048 .f32 :=
  select (broadcastInDim S8192x2048 ![0] bcast_S8192_S8192x2048_0 checks)
    (Host.gather gather_S8192x2048_S8192x1_S8192x2048_1_0_n_n_0_1_12048 x col)
    (broadcastInDim S8192x2048 ![] bcast_S_S8192x2048 (constant S_ .f32 0x7FC00000#32))

/-- The rows taken are the table. -/
theorem taken_eq (x : FVec F S8192x2048 .f32) : taken x = x := by
  funext j
  have hc : (broadcastInDim S8192x2048 ![0] bcast_S8192_S8192x2048_0 checks) j = 1#1 := checks_apply _
  show Scalar.select ((broadcastInDim S8192x2048 ![0] bcast_S8192_S8192x2048_0 checks) j) _ _ = _
  rw [hc, select_one, gather_row _ rfl rfl rfl rfl rfl x col j (j 0) (by rw [col_apply]; exact congrArg Int.toNat (toInt_row (j 0)))]
  exact congrArg x (eq_ix2 j).symm

/-! ## The reference's run -/

/-- The reference's run: it terminates with the table, with a leading dimension of one, as its result, both arguments
    unchanged and every semaphore counter at zero. -/
theorem run_ref (m : (l : Loc nD τ sig) → Buf (Elt F) l) (ρ : Dev nD → PrngReg) :
    θ_run defs (onTc (τ := τ) (main (F := F))) ⟨m, fun _ => 0, ρ⟩ fun r =>
      (∀ c : Dev nD, r.2.mem ((SparseCore.T c).loc main_v2)
          = (broadcastInDim S1x8192x2048 ![1, 2] bcast_S8192x2048_S1x8192x2048_1_2
              (m ((SparseCore.T c).loc main_arg1) : FVec F S8192x2048 .f32) : FVec F S1x8192x2048 .f32)
        ∧ r.2.mem ((SparseCore.T c).loc main_arg0) = m ((SparseCore.T c).loc main_arg0)
        ∧ r.2.mem ((SparseCore.T c).loc main_arg1) = m ((SparseCore.T c).loc main_arg1))
      ∧ r.2.sem = fun _ => 0 := by
  refine (θ_run defs _ _).mono (fun r h => ⟨fun c => ⟨?_, (h c).2⟩, sem_eq_zero_of_no_sems (by decide) r.2⟩) (Cert.ReferenceIdeal.Value.run m ρ)
  exact (h c).1.trans (congrArg _ (taken_eq _))

end Cert.Proof.Take

end
-- ==== Proof.lean ====
/-
  The proof of every claim. The kernel's run (`Table.run_main`) and the reference's (`Take.run_ref`) are proved at any float
  values; each claim is one of them, or both, read at its own.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal.Run
public import proofs.«01_k».proof.Proof.Gen.Reference
public import proofs.«01_k».proof.Proof.Launch
public import proofs.«01_k».proof.Proof.Take
public import Idealize.ShloMosaic.Adequacy
public import Idealize.ShloMosaic.Init

@[expose] public section

noncomputable section

namespace Cert.Proof

open Idealize.ShloMosaic Idealize.SL.Sem

/-- The kernel at machine floats: it runs, with its arguments unchanged and every counter at zero. -/
theorem frame_kernel : Cert.quiescent_Kernel := fun m ρ _ =>
  (θ_run Cert.KernelIdeal.defs _ _).mono (fun _ h => ⟨fun c => (h.1 c).2, h.2⟩) (Table.run_main (F := Bits) m ρ)

/-- The kernel at exact floats: it runs, with its arguments unchanged and every counter at zero. -/
theorem frame_kernelIdeal : Cert.quiescent_KernelIdeal := fun m ρ _ =>
  (θ_run Cert.KernelIdeal.defs _ _).mono (fun _ h => ⟨fun c => (h.1 c).2, h.2⟩) (Table.run_main (F := Ideal) m ρ)

/-- The reference at exact floats: it runs, with its arguments unchanged and every counter at zero. -/
theorem frame_referenceIdeal : Cert.quiescent_ReferenceIdeal := fun m ρ _ =>
  (θ_run Cert.ReferenceIdeal.defs _ _).mono (fun _ h => ⟨fun c => (h.1 c).2, h.2⟩) (Take.run_ref (F := Ideal) m ρ)

/-- The reference at machine floats: it runs, with its arguments unchanged and every counter at zero. -/
theorem frame_reference : Cert.quiescent_Reference := fun m ρ _ =>
  (θ_run Cert.ReferenceIdeal.defs _ _).mono (fun _ h => ⟨fun c => (h.1 c).2, h.2⟩) (Take.run_ref (F := Bits) m ρ)

/-- At exact floats the kernel and the reference end with the same result, the table with a leading dimension of one. -/
theorem algebraic : Cert.algebraic_KernelIdeal_ReferenceIdeal := fun m ρ m' ρ' _ hm =>
  ⟨fun c => Table.Res m c,
    (θ_run Cert.KernelIdeal.defs _ _).mono (fun _ h c => h.1 c) (Table.run_main (F := Ideal) m ρ),
    (θ_run Cert.ReferenceIdeal.defs _ _).mono
      (fun _ h c => ⟨(h.1 c).1.trans (congrArg (Table.layOut (F := Ideal)) (hm c).2), (h.1 c).2⟩)
      (Take.run_ref (F := Ideal) m' ρ')⟩

/-- At machine floats the kernel and the reference end with the same result, bit for bit. -/
theorem bitexact : Cert.bitexact_Kernel_Reference := fun m ρ m' ρ' _ hm =>
  ⟨fun c => Table.Res (F := Bits) m c,
    (θ_run Cert.KernelIdeal.defs _ _).mono (fun _ h c => h.1 c) (Table.run_main (F := Bits) m ρ),
    (θ_run Cert.ReferenceIdeal.defs _ _).mono
      (fun _ h c => ⟨(h.1 c).1.trans (congrArg (Table.layOut (F := Bits)) (hm c).2), (h.1 c).2⟩)
      (Take.run_ref (F := Bits) m' ρ')⟩

/-- Every claim, with the programs' side conditions. -/
theorem claim : Cert.Claim :=
  ⟨Cert.Kernel.Gen.facts, Cert.KernelIdeal.Gen.facts, Cert.ReferenceIdeal.Gen.facts, Cert.Reference.Gen.facts,
    frame_kernel, frame_kernelIdeal, frame_referenceIdeal, frame_reference, trivial, algebraic, bitexact⟩

end Cert.Proof

end
